-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S1024x200 : Shape := ⟨2, ![1024, 200]⟩
abbrev S101x101 : Shape := ⟨2, ![101, 101]⟩
abbrev S_ : Shape := ⟨0, ![]⟩

class Facts : Prop where
  bcast_S_S1024x200 : S_.BroadcastsInDim S1024x200 (![] : Fin 0 → Fin S1024x200.rank)
  reducesTo_S1024x200_S_d0_1 : S1024x200.ReducesTo [0, 1] S_
  h_S_ : 0 < S_.numel
  bcast_S_S101x101 : S_.BroadcastsInDim S101x101 (![] : Fin 0 → Fin S101x101.rank)
  reducesTo_S101x101_S_d0_1 : S101x101.ReducesTo [0, 1] S_

variable [Facts]

def fn {F : FTy → Type} [FloatOps F] (main_arg0 : IVec S1024x200 32) (main_arg1 : FVec F S101x101 .f32) : IVec S_ 1 :=
  let main_c : IVec S_ 32 := constantI S_ 32 0#32
  let main_v0 : IVec S1024x200 32 := broadcastInDim S1024x200 ![] bcast_S_S1024x200 main_c
  let main_v1 : IVec S1024x200 1 := cmpi .sge main_arg0 main_v0
  let main_c_0 : IVec S_ 1 := constantI S_ 1 1#1
  let main_v2 : IVec S_ 1 := (fun x v => Host.reduce IntOp.andi x v reducesTo_S1024x200_S_d0_1 h_S_) main_v1 main_c_0
  let main_c_1 : IVec S_ 32 := constantI S_ 32 100#32
  let main_v3 : IVec S1024x200 32 := broadcastInDim S1024x200 ![] bcast_S_S1024x200 main_c_1
  let main_v4 : IVec S1024x200 1 := cmpi .sle main_arg0 main_v3
  let main_c_2 : IVec S_ 1 := constantI S_ 1 1#1
  let main_v5 : IVec S_ 1 := (fun x v => Host.reduce IntOp.andi x v reducesTo_S1024x200_S_d0_1 h_S_) main_v4 main_c_2
  let main_v6 : IVec S_ 1 := andi main_v2 main_v5
  let main_v7 : IVec S101x101 32 := iotaInDim S101x101 32 0
  let main_v8 : IVec S101x101 32 := iotaInDim S101x101 32 1
  let main_c_3 : IVec S_ 32 := constantI S_ 32 0#32
  let main_v9 : IVec S101x101 32 := broadcastInDim S101x101 ![] bcast_S_S101x101 main_c_3
  let main_v10 : IVec S101x101 32 := addi main_v7 main_v9
  let main_v11 : IVec S101x101 1 := cmpi .eq main_v10 main_v8
  let main_v12 : FVec F S101x101 .f32 := uitofp .f32 main_v11
  let main_v13 : IVec S101x101 1 := cmpf .oeq main_arg1 main_v12
  let main_c_4 : IVec S_ 1 := constantI S_ 1 1#1
  let main_v14 : IVec S_ 1 := (fun x v => Host.reduce IntOp.andi x v reducesTo_S101x101_S_d0_1 h_S_) main_v13 main_c_4
  let main_v15 : IVec S_ 1 := andi main_v6 main_v14
  main_v15
-- ==== Kernel.lean ====
abbrev S1024x200 : Shape := ⟨2, ![1024, 200]⟩
abbrev S101x101 : Shape := ⟨2, ![101, 101]⟩
abbrev S200x1024 : Shape := ⟨2, ![200, 1024]⟩
abbrev S200x8x128 : Shape := ⟨3, ![200, 8, 128]⟩
abbrev S301x200x1024 : Shape := ⟨3, ![301, 200, 1024]⟩
abbrev S200x199x8x128 : Shape := ⟨4, ![200, 199, 8, 128]⟩
abbrev S8x8x128 : Shape := ⟨3, ![8, 8, 128]⟩
abbrev S7x200x1024 : Shape := ⟨3, ![7, 200, 1024]⟩
abbrev S8x199x8x128 : Shape := ⟨4, ![8, 199, 8, 128]⟩
abbrev S1x200x1024 : Shape := ⟨3, ![1, 200, 1024]⟩
abbrev S8x1x8x128 : Shape := ⟨4, ![8, 1, 8, 128]⟩
abbrev S199x8x128 : Shape := ⟨3, ![199, 8, 128]⟩
abbrev S1x199x8x128 : Shape := ⟨4, ![1, 199, 8, 128]⟩
abbrev S1024x200x301 : Shape := ⟨3, ![1024, 200, 301]⟩
abbrev S8x128x200x199 : Shape := ⟨4, ![8, 128, 200, 199]⟩
abbrev S1024x200x199x1 : Shape := ⟨4, ![1024, 200, 199, 1]⟩

abbrev nBuf : Space → Nat
  | .hbm => 9
  | .vmem => 8
  | .smem => 0
  | _ => 0

abbrev bufTy : (tb : Table) → Fin (tcTables nBuf tb) → BufTy
  | .hbm, ⟨0, _⟩ => ⟨S1024x200, .i32⟩
  | .hbm, ⟨1, _⟩ => ⟨S101x101, .f32⟩
  | .hbm, ⟨2, _⟩ => ⟨S200x1024, .i32⟩
  | .hbm, ⟨3, _⟩ => ⟨S200x8x128, .i32⟩
  | .hbm, ⟨4, _⟩ => ⟨S301x200x1024, .f32⟩
  | .hbm, ⟨5, _⟩ => ⟨S200x199x8x128, .f32⟩
  | .hbm, ⟨6, _⟩ => ⟨S1024x200x301, .f32⟩
  | .hbm, ⟨7, _⟩ => ⟨S8x128x200x199, .f32⟩
  | .hbm, ⟨8, _⟩ => ⟨S1024x200x199x1, .f32⟩
  | .local _ .vmem, ⟨0, _⟩ => ⟨S200x1024, .i32⟩
  | .local _ .vmem, ⟨1, _⟩ => ⟨S200x8x128, .i32⟩
  | .local _ .vmem, ⟨2, _⟩ => ⟨S8x8x128, .i32⟩
  | .local _ .vmem, ⟨3, _⟩ => ⟨S8x8x128, .i32⟩
  | .local _ .vmem, ⟨4, _⟩ => ⟨S7x200x1024, .f32⟩
  | .local _ .vmem, ⟨5, _⟩ => ⟨S7x200x1024, .f32⟩
  | .local _ .vmem, ⟨6, _⟩ => ⟨S8x199x8x128, .f32⟩
  | .local _ .vmem, ⟨7, _⟩ => ⟨S8x199x8x128, .f32⟩
  | _, _ => ⟨S1024x200, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![68], ![false]⟩

def k0_cond1 (i : grid0.Coords) : BitVec 1 :=
  let arg0 : BitVec 32 := BitVec.ofNat 32 (i 0).val
  let c43_i32 : BitVec 32 := 43#32
  let v0 : BitVec 1 := Scalar.cmpi .slt arg0 c43_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c43_i32_0 : BitVec 32 := 43#32
  let v3 : BitVec 1 := Scalar.cmpi .sge arg0 c43_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c43_i32 : BitVec 32 := 43#32
  let v0 : BitVec 32 := Scalar.subi arg0 c43_i32
  let c0_i32 : BitVec 32 := 0#32
  let c24_i32 : BitVec 32 := 24#32
  let v1 : BitVec 32 := Scalar.maxsi c0_i32 v0
  let v2 : BitVec 32 := Scalar.minsi c24_i32 v1
  let c0_i32_0 : BitVec 32 := 0#32
  let c0_i32_1 : BitVec 32 := 0#32
  let c0_i32_2 : BitVec 32 := 0#32
  ![v2.toNat, c0_i32_0.toNat, c0_i32_1.toNat]

def cc0_transform_3 (i : grid0.Coords) : Fin 3 → Nat :=
  let arg0 : BitVec 32 := BitVec.ofNat 32 (i 0).val
  let c42_i32 : BitVec 32 := 42#32
  let v0 : BitVec 32 := Scalar.minsi arg0 c42_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 4 → Nat :=
  let arg0 : BitVec 32 := BitVec.ofNat 32 (i 0).val
  let c43_i32 : BitVec 32 := 43#32
  let v0 : BitVec 32 := Scalar.subi arg0 c43_i32
  let c0_i32 : BitVec 32 := 0#32
  let c24_i32 : BitVec 32 := 24#32
  let v1 : BitVec 32 := Scalar.maxsi c0_i32 v0
  let v2 : BitVec 32 := Scalar.minsi c24_i32 v1
  let c0_i32_0 : BitVec 32 := 0#32
  let c0_i32_1 : BitVec 32 := 0#32
  let c0_i32_2 : BitVec 32 := 0#32
  let c0_i32_3 : BitVec 32 := 0#32
  ![v2.toNat, c0_i32_0.toNat, c0_i32_1.toNat, c0_i32_2.toNat]

abbrev stage0_0 : Fin 1 → Memref sig .tc .vmem S200x1024 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S200x8x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x8x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S7x200x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x199x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S1024x200 : Shape := ⟨2, ![1024, 200]⟩
abbrev S101x101 : Shape := ⟨2, ![101, 101]⟩
abbrev S200x200 : Shape := ⟨2, ![200, 200]⟩
abbrev S_ : Shape := ⟨0, ![]⟩
abbrev S1x200x200 : Shape := ⟨3, ![1, 200, 200]⟩
abbrev S1024x200x200 : Shape := ⟨3, ![1024, 200, 200]⟩
abbrev S1024x200x1 : Shape := ⟨3, ![1024, 200, 1]⟩
abbrev S1 : Shape := ⟨1, ![1]⟩
abbrev S1x1x1 : Shape := ⟨3, ![1, 1, 1]⟩
abbrev S1024x200x101 : Shape := ⟨3, ![1024, 200, 101]⟩
abbrev S1024x200x301 : Shape := ⟨3, ![1024, 200, 301]⟩
abbrev S1024x101x200 : Shape := ⟨3, ![1024, 101, 200]⟩
abbrev S200 : Shape := ⟨1, ![200]⟩
abbrev S200x1 : Shape := ⟨2, ![200, 1]⟩
abbrev S199 : Shape := ⟨1, ![199]⟩
abbrev S1x199 : Shape := ⟨2, ![1, 199]⟩
abbrev S200x199 : Shape := ⟨2, ![200, 199]⟩
abbrev S1x200x199 : Shape := ⟨3, ![1, 200, 199]⟩
abbrev S1024x200x199 : Shape := ⟨3, ![1024, 200, 199]⟩
abbrev S1024x200x199x1 : Shape := ⟨4, ![1024, 200, 199, 1]⟩
abbrev S1x1x1x1 : Shape := ⟨4, ![1, 1, 1, 1]⟩

abbrev nBuf : Space → Nat
  | .hbm => 72
  | .vmem => 0
  | .smem => 0
  | _ => 0

abbrev bufTy : (tb : Table) → Fin (tcTables nBuf tb) → BufTy
  | .hbm, ⟨0, _⟩ => ⟨S1024x200, .i32⟩
  | .hbm, ⟨1, _⟩ => ⟨S101x101, .f32⟩
  | .hbm, ⟨2, _⟩ => ⟨S200x200, .i32⟩
  | .hbm, ⟨3, _⟩ => ⟨S200x200, .i32⟩
  | .hbm, ⟨4, _⟩ => ⟨S_, .i32⟩
  | .hbm, ⟨5, _⟩ => ⟨S200x200, .i32⟩
  | .hbm, ⟨6, _⟩ => ⟨S200x200, .i32⟩
  | .hbm, ⟨7, _⟩ => ⟨S200x200, .i1⟩
  | .hbm, ⟨8, _⟩ => ⟨S200x200, .f32⟩
  | .hbm, ⟨9, _⟩ => ⟨S1x200x200, .f32⟩
  | .hbm, ⟨10, _⟩ => ⟨S1024x200x200, .f32⟩
  | .hbm, ⟨11, _⟩ => ⟨S_, .i32⟩
  | .hbm, ⟨12, _⟩ => ⟨S1024x200, .i32⟩
  | .hbm, ⟨13, _⟩ => ⟨S1024x200, .i1⟩
  | .hbm, ⟨14, _⟩ => ⟨S_, .i32⟩
  | .hbm, ⟨15, _⟩ => ⟨S1024x200, .i32⟩
  | .hbm, ⟨16, _⟩ => ⟨S1024x200, .i32⟩
  | .hbm, ⟨17, _⟩ => ⟨S1024x200, .i32⟩
  | .hbm, ⟨18, _⟩ => ⟨S1024x200x1, .i32⟩
  | .hbm, ⟨19, _⟩ => ⟨S1, .i32⟩
  | .hbm, ⟨20, _⟩ => ⟨S_, .i32⟩
  | .hbm, ⟨21, _⟩ => ⟨S1024x200x1, .i32⟩
  | .hbm, ⟨22, _⟩ => ⟨S1024x200x1, .i1⟩
  | .hbm, ⟨23, _⟩ => ⟨S1x1x1, .i32⟩
  | .hbm, ⟨24, _⟩ => ⟨S1024x200x1, .i32⟩
  | .hbm, ⟨25, _⟩ => ⟨S1024x200x1, .i1⟩
  | .hbm, ⟨26, _⟩ => ⟨S1024x200x1, .i1⟩
  | .hbm, ⟨27, _⟩ => ⟨S_, .i1⟩
  | .hbm, ⟨28, _⟩ => ⟨S1024x200, .i1⟩
  | .hbm, ⟨29, _⟩ => ⟨S1024x200x101, .f32⟩
  | .hbm, ⟨30, _⟩ => ⟨S1024x200x101, .i1⟩
  | .hbm, ⟨31, _⟩ => ⟨S_, .f32⟩
  | .hbm, ⟨32, _⟩ => ⟨S1024x200x101, .f32⟩
  | .hbm, ⟨33, _⟩ => ⟨S1024x200x101, .f32⟩
  | .hbm, ⟨34, _⟩ => ⟨S1024x200x301, .f32⟩
  | .hbm, ⟨35, _⟩ => ⟨S1024x101x200, .f32⟩
  | .hbm, ⟨36, _⟩ => ⟨S1024x200x200, .f32⟩
  | .hbm, ⟨37, _⟩ => ⟨S200, .i32⟩
  | .hbm, ⟨38, _⟩ => ⟨S200x1, .i32⟩
  | .hbm, ⟨39, _⟩ => ⟨S199, .i32⟩
  | .hbm, ⟨40, _⟩ => ⟨S1x199, .i32⟩
  | .hbm, ⟨41, _⟩ => ⟨S200x199, .i32⟩
  | .hbm, ⟨42, _⟩ => ⟨S200x199, .i32⟩
  | .hbm, ⟨43, _⟩ => ⟨S200x199, .i1⟩
  | .hbm, ⟨44, _⟩ => ⟨S200x199, .i32⟩
  | .hbm, ⟨45, _⟩ => ⟨S200x199, .i32⟩
  | .hbm, ⟨46, _⟩ => ⟨S200x199, .i32⟩
  | .hbm, ⟨47, _⟩ => ⟨S1x200x199, .i32⟩
  | .hbm, ⟨48, _⟩ => ⟨S1024x200x199, .i32⟩
  | .hbm, ⟨49, _⟩ => ⟨S_, .i32⟩
  | .hbm, ⟨50, _⟩ => ⟨S1024x200x199, .i32⟩
  | .hbm, ⟨51, _⟩ => ⟨S1024x200x199, .i1⟩
  | .hbm, ⟨52, _⟩ => ⟨S_, .i32⟩
  | .hbm, ⟨53, _⟩ => ⟨S1024x200x199, .i32⟩
  | .hbm, ⟨54, _⟩ => ⟨S1024x200x199, .i32⟩
  | .hbm, ⟨55, _⟩ => ⟨S1024x200x199, .i32⟩
  | .hbm, ⟨56, _⟩ => ⟨S1024x200x199x1, .i32⟩
  | .hbm, ⟨57, _⟩ => ⟨S1, .i32⟩
  | .hbm, ⟨58, _⟩ => ⟨S_, .i32⟩
  | .hbm, ⟨59, _⟩ => ⟨S1024x200x199x1, .i32⟩
  | .hbm, ⟨60, _⟩ => ⟨S1024x200x199x1, .i1⟩
  | .hbm, ⟨61, _⟩ => ⟨S1x1x1x1, .i32⟩
  | .hbm, ⟨62, _⟩ => ⟨S1024x200x199x1, .i32⟩
  | .hbm, ⟨63, _⟩ => ⟨S1024x200x199x1, .i1⟩
  | .hbm, ⟨64, _⟩ => ⟨S1024x200x199x1, .i1⟩
  | .hbm, ⟨65, _⟩ => ⟨S_, .i1⟩
  | .hbm, ⟨66, _⟩ => ⟨S1024x200x199, .i1⟩
  | .hbm, ⟨67, _⟩ => ⟨S1024x200x199, .f32⟩
  | .hbm, ⟨68, _⟩ => ⟨S_, .f32⟩
  | .hbm, ⟨69, _⟩ => ⟨S1024x200x199, .f32⟩
  | .hbm, ⟨70, _⟩ => ⟨S1024x200x199, .f32⟩
  | .hbm, ⟨71, _⟩ => ⟨S1024x200x199x1, .f32⟩
  | _, _ => ⟨S1024x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_call1_c : Ref sig .tc := ⟨.hbm, 49, rfl⟩
abbrev main_call1_v0 : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_c_1 : Ref sig .tc := ⟨.hbm, 57, rfl⟩
abbrev main_call1_c_2 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_c_3 : Ref sig .tc := ⟨.hbm, 65, rfl⟩
abbrev main_call1_v12 : Ref sig .tc := ⟨.hbm, 66, rfl⟩
abbrev main_call1_v13 : Ref sig .tc := ⟨.hbm, 67, rfl⟩
abbrev main_call1_cst : Ref sig .tc := ⟨.hbm, 68, rfl⟩
abbrev main_call1_v14 : Ref sig .tc := ⟨.hbm, 69, rfl⟩
abbrev main_v24 : Ref sig .tc := ⟨.hbm, 70, rfl⟩
abbrev main_v25 : Ref sig .tc := ⟨.hbm, 71, rfl⟩

abbrev nD : Nat := 1
abbrev τ : Topo := Topo.v7x

variable {F : FTy → Type} [FloatOps F]
-- ==== Proof.Body.lean ====
/- One grid point of the kernel, run: before point 43 it fills the first result's block and leaves the second
   result's buffer alone, from point 43 on it is the other way round. -/
module

public import proofs.«01_k».proof.Proof.Gen.KernelIdeal.Frame
public import proofs.«01_k».proof.Proof.Gen.KernelIdeal.Skeleton
public import Idealize.ShloMosaic.Lib.Pipeline.Value

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-- What a view reads after one store of the whole shape at offset zero is the stored value, whatever was there. -/
theorem read_one_store {sig : RefSig} {κ : Kind} {sp : Space} {S : Shape} {e : EltTy}
    (v : View sig κ sp S e) (f : v.ty.Contents (Elt F)) {off : Fin S.rank → Nat} (h : off = fun _ => 0)
    (inb : ∀ a, off a + S.size a ≤ S.size a) (w : S.Idx → Elt F e) :
    v.read (Elt F) (v.writes (Elt F) f [⟨Rect.unit off S.size inb, w⟩]) = w := by
  rw [View.read_writes_eq_canon _ _ _ fun y => ⟨_, List.mem_singleton_self _, View.mem_set_unit_zero h inb y⟩,
    View.canon_unit_zero h]

/-- The zero offsets of rank two, -/
theorem zeros2 : (![0, 0] : Fin 2 → Nat) = fun _ => 0 := by decide
/-- of rank three, -/
theorem zeros3 : (![0, 0, 0] : Fin 3 → Nat) = fun _ => 0 := by decide
/-- and of rank four. -/
theorem zeros4 : (![0, 0, 0, 0] : Fin 4 → Nat) = fun _ => 0 := by decide

variable (c : Dev nD) (i : grid0.Coords)
  (arg1 : Memref sig .tc .vmem S200x1024 .i32) (harg1 : arg1.IsWhole)
  (arg2 : Memref sig .tc .vmem S200x8x128 .i32) (harg2 : arg2.IsWhole)
  (arg3 : Memref sig .tc .vmem S8x8x128 .i32) (harg3 : arg3.IsWhole)
  (arg4 : Memref sig .tc .vmem S7x200x1024 .f32) (harg4 : arg4.IsWhole)
  (arg5 : Memref sig .tc .vmem S8x199x8x128 .f32) (harg5 : arg5.IsWhole)
  (x0 : Vec F S200x1024 .i32) (x1 : Vec F S200x8x128 .i32) (x2 : Vec F S8x8x128 .i32)
  (y3 : Vec F S7x200x1024 .f32) (y4 : Vec F S8x199x8x128 .f32)

/-- The five staging buffers at contents `x0 … y4`. -/
abbrev five (x0 : Vec F S200x1024 .i32) (x1 : Vec F S200x8x128 .i32) (x2 : Vec F S8x8x128 .i32)
    (y3 : Vec F S7x200x1024 .f32) (y4 : Vec F S8x199x8x128 .f32) : sProp 𝕄 :=
  iprop(owns (c : Thread nD τ) arg1 fullShare x0 ∗ owns (c : Thread nD τ) arg2 fullShare x1
    ∗ owns (c : Thread nD τ) arg3 fullShare x2 ∗ owns (c : Thread nD τ) arg4 fullShare y3
    ∗ owns (c : Thread nD τ) arg5 fullShare y4)

set_option maxHeartbeats 1000000 in
/-- A point of the first part: the fourth buffer ends at the payload of its one store, the others as they were. -/
theorem run_unary (h1 : k0_cond1 i = 1#1) (h2 : ¬k0_cond2 i = 1#1) (E : Set ℕ) (K : PUnit → sProp 𝕄) :
    iprop(five c arg1 arg2 arg3 arg4 arg5 x0 x1 x2 y3 y4
        ∗ (five c arg1 arg2 arg3 arg4 arg5 x0 x1 x2 (k0_pay1 i x0) y4 -∗ K ⟨⟩))
      ⊢ wp frame (wpE (defs₀ (F := F)) Variants.none c none) E
          (cc0__body i arg1 harg1 arg2 harg2 arg3 harg3 arg4 harg4 arg5 harg5) K := by
  simp only [cc0__body_eq_skeleton]; unfold cc0__body_skel
  unfold five owns
  iintro ⟨⟨⟨%f0, %hf0, H0⟩, ⟨%f1, %hf1, H1⟩, ⟨%f2, %hf2, H2⟩, ⟨%f3, %hf3, H3⟩, ⟨%f4, %hf4, H4⟩⟩, Hk⟩
  obtain rfl := harg1.eq_unread hf0
  sl_exec (disch := first | sl_exact h1 | sl_exact h2)
  sl_step
  iapply Hk
  isplitl [H0]
  · iexists _; isplitr; · ipureintro; exact harg1.read_unread _
    iexact H0
  isplitl [H1]
  · iexists _; isplitr; · ipureintro; exact hf1
    iexact H1
  isplitl [H2]
  · iexists _; isplitr; · ipureintro; exact hf2
    iexact H2
  isplitl [H3]
  · iexists _; isplitr; swap; · iexact H3
    ipureintro
    refine (read_one_store _ _ zeros3 _ _).trans ?_
    sl_unfold_words
    rw [View.readAt_eq_ld, View.ld_unit_zero zeros2, harg1.read_unread]
  iexists _; isplitr; swap; · iexact H4
  ipureintro; exact hf4

set_option maxHeartbeats 1000000 in
/-- A point of the second part: the fifth buffer ends at the payload of its one store, the others as they were. -/
theorem run_binary (h1 : ¬k0_cond1 i = 1#1) (h2 : k0_cond2 i = 1#1) (E : Set ℕ) (K : PUnit → sProp 𝕄) :
    iprop(five c arg1 arg2 arg3 arg4 arg5 x0 x1 x2 y3 y4
        ∗ (five c arg1 arg2 arg3 arg4 arg5 x0 x1 x2 y3 (k0_pay2 i x1 x2) -∗ K ⟨⟩))
      ⊢ wp frame (wpE (defs₀ (F := F)) Variants.none c none) E
          (cc0__body i arg1 harg1 arg2 harg2 arg3 harg3 arg4 harg4 arg5 harg5) K := by
  simp only [cc0__body_eq_skeleton]; unfold cc0__body_skel
  unfold five owns
  iintro ⟨⟨⟨%f0, %hf0, H0⟩, ⟨%f1, %hf1, H1⟩, ⟨%f2, %hf2, H2⟩, ⟨%f3, %hf3, H3⟩, ⟨%f4, %hf4, H4⟩⟩, Hk⟩
  obtain rfl := harg2.eq_unread hf1; obtain rfl := harg3.eq_unread hf2
  sl_exec (disch := first | sl_exact h1 | sl_exact h2)
  sl_step
  iapply Hk
  isplitl [H0]
  · iexists _; isplitr; · ipureintro; exact hf0
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact hf3
    iexact H3
  iexists _; isplitr; swap; · iexact H4
  ipureintro
  refine (read_one_store _ _ zeros4 _ _).trans ?_
  sl_unfold_words
  rw [View.readAt_eq_ld, View.readAt_eq_ld, View.ld_unit_zero zeros3, View.ld_unit_zero zeros3, harg2.read_unread,
    harg3.read_unread]

end Cert.KernelIdeal.Hand

end
-- ==== Proof.Region.lean ====
/- The kernel's region: what each staging buffer holds before and after each grid point, the body obligation, the
   run of the whole program, and that it leaves the arguments and the counters as they were. -/
module

public import proofs.«01_k».proof.Proof.Body
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The schedule -/

/-- The first branch is taken exactly before point 43, -/
theorem cond1_iff : ∀ t : Fin cfg0.N, k0_cond1 (grid0.coords t) = 1#1 ↔ t.val < 43 :=
  (by decide +kernel : ∀ t : Fin grid0.N, k0_cond1 (grid0.coords t) = 1#1 ↔ t.val < 43)
/-- the second exactly from it on. -/
theorem cond2_iff : ∀ t : Fin cfg0.N, k0_cond2 (grid0.coords t) = 1#1 ↔ 43 ≤ t.val :=
  (by decide +kernel : ∀ t : Fin grid0.N, k0_cond2 (grid0.coords t) = 1#1 ↔ 43 ≤ t.val)
/-- The first result's window is idle from point 43 on, -/
theorem idle3_iff : ∀ t : Fin cfg0.N, cfg0.idle 3 (cfg0.grid.coords t) = decide (43 ≤ t.val) :=
  (by decide +kernel : ∀ t : Fin grid0.N, cfg0.idle 3 (grid0.coords t) = decide (43 ≤ t.val))
/-- the second result's before it. -/
theorem idle4_iff : ∀ t : Fin cfg0.N, cfg0.idle 4 (cfg0.grid.coords t) = decide (t.val < 43) :=
  (by decide +kernel : ∀ t : Fin grid0.N, cfg0.idle 4 (grid0.coords t) = decide (t.val < 43))
/-- The first result's block is written back after each of the points 0 to 41 and after the last point, -/
theorem flush3_iff : ∀ t : Fin cfg0.N, (cfg0.win 3).flush t = decide (t.val < 42 ∨ t.val = 67) :=
  (by decide +kernel : ∀ t : Fin grid0.N, win0_3.flush t = decide (t.val < 42 ∨ t.val = 67))
/-- the second result's after each point from 43 on. -/
theorem flush4_iff : ∀ t : Fin cfg0.N, (cfg0.win 4).flush t = decide (43 ≤ t.val) :=
  (by decide +kernel : ∀ t : Fin grid0.N, win0_4.flush t = decide (43 ≤ t.val))

/-- The last point at or before `t` that fills the first result's block. -/
def cap (t : Fin cfg0.N) : Fin cfg0.N := ⟨min t.val 42, Nat.lt_of_le_of_lt (Nat.min_le_left _ _) t.isLt⟩

/-- A point that fills the first result's block is its own cap. -/
theorem cap_of_lt (t : Fin cfg0.N) (h : t.val < 43) : cap t = t := Fin.ext (Nat.min_eq_left (by omega))

variable (m : (ℓ : Loc nD τ sig) → Buf (Elt F) ℓ) (ρ : Dev nD → PrngReg)

/-! ## The contents the body leaves -/

/-- The first result's block as point `t` fills it, -/
abbrev unaryBlk (c : Dev nD) (t : Fin cfg0.N) : Vec F S7x200x1024 .f32 := k0_pay1 (grid0.coords t) (iblk m c 0 t)
/-- and the second's. -/
abbrev binaryBlk (c : Dev nD) (t : Fin cfg0.N) : Vec F S8x199x8x128 .f32 :=
  k0_pay2 (grid0.coords t) (iblk m c 1 t) (iblk m c 2 t)

/-- The proof data: each input's buffer keeps its block; the first result's holds what the last filling point left,
    the second's what the point computes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => unaryBlk m c (cap t)
    | ⟨4, _⟩ => binaryBlk m c t
  Φ _ := Pipeline.ΦA spec0 c
  q w := Pipeline.shareOf spec0 w
  owed _ := 0

/-- Every window's array starts at its entry contents. -/
theorem dats_A (c : Dev nD) (w : Fin cfg0.W) : (dats m 0 c).A w = V m c (Pipeline.arrRef spec0 w) := by
  dsimp only [dats]
/-- What the first input's buffer holds after a point: its block, -/
theorem after_0 (c : Dev nD) (t : Fin cfg0.N) : (dats m 0 c).after 0 t = iblk m c 0 t := by dsimp only [dats]
/-- the second input's, -/
theorem after_1 (c : Dev nD) (t : Fin cfg0.N) : (dats m 0 c).after 1 t = iblk m c 1 t := by dsimp only [dats]
/-- the third input's, -/
theorem after_2 (c : Dev nD) (t : Fin cfg0.N) : (dats m 0 c).after 2 t = iblk m c 2 t := by dsimp only [dats]
/-- the first result's: what the last filling point computed, -/
theorem after_3 (c : Dev nD) (t : Fin cfg0.N) : (dats m 0 c).after 3 t = unaryBlk m c (cap t) := by dsimp only [dats]
/-- and the second result's: what this point computes. -/
theorem after_4 (c : Dev nD) (t : Fin cfg0.N) : (dats m 0 c).after 4 t = binaryBlk m c t := by dsimp only [dats]

/-- Before a point each input's buffer holds its block: the first, -/
theorem before_0 (c : Dev nD) (t : Fin cfg0.N) (d) : (dats m 0 c).before 0 t d = iblk m c 0 t :=
  before0_0_of m (dats m 0 c) (dats_A m c 0) (after_0 m c) t d
/-- the second, -/
theorem before_1 (c : Dev nD) (t : Fin cfg0.N) (d) : (dats m 0 c).before 1 t d = iblk m c 1 t :=
  before0_1_of m (dats m 0 c) (dats_A m c 1) (after_1 m c) t d
/-- and the third. -/
theorem before_2 (c : Dev nD) (t : Fin cfg0.N) (d) : (dats m 0 c).before 2 t d = iblk m c 2 t :=
  before0_2_of m (dats m 0 c) (dats_A m c 2) (after_2 m c) t d

/-- From point 43 on the first result's buffer still holds what point 42 left in it. -/
theorem before_3 (c : Dev nD) (d) : ∀ (n : ℕ) (t : Fin cfg0.N), t.val = n → 43 ≤ n →
    (dats m 0 c).before 3 t d = unaryBlk m c (cap t)
  | 0, _, _, h => absurd h (by decide)
  | n + 1, t, ht, h => by
    have hp : t.val - 1 < cfg0.N := Nat.lt_of_le_of_lt (Nat.sub_le _ _) t.isLt
    have hN : t.val < 68 := lt_of_lt_of_eq t.isLt (show cfg0.N = 68 from N_0)
    have hcap : cap t = cap ⟨t.val - 1, hp⟩ := Fin.ext (by simp only [cap]; omega)
    rw [(dats m 0 c).before_of_pos 3 t (by omega) ((cfg0.win 3).fetch_out rfl t) d, flush3_iff,
      if_neg (by simp only [decide_eq_true_eq]; omega), hcap]
    unfold Dat.left
    rw [idle3_iff]
    by_cases h43 : n + 1 = 43
    · rw [decide_eq_false (by simp only; omega)]
      exact after_3 m c _
    · rw [decide_eq_true (by simp only; omega)]
      exact before_3 c d n ⟨t.val - 1, hp⟩ (by simp only; omega) (by omega)

/-! ## The body obligation -/

/-- Staging buffer of the first input. -/
abbrev ms_0 (t : Fin cfg0.N) : Memref sig .tc .vmem S200x1024 .i32 := win0_0.stage (cfg0.slots t 0)
/-- Staging buffer of the second input. -/
abbrev ms_1 (t : Fin cfg0.N) : Memref sig .tc .vmem S200x8x128 .i32 := win0_1.stage (cfg0.slots t 1)
/-- Staging buffer of the third input. -/
abbrev ms_2 (t : Fin cfg0.N) : Memref sig .tc .vmem S8x8x128 .i32 := win0_2.stage (cfg0.slots t 2)
/-- Staging buffer of the first result. -/
abbrev ms_3 (t : Fin cfg0.N) : Memref sig .tc .vmem S7x200x1024 .f32 := win0_3.stage (cfg0.slots t 3)
/-- Staging buffer of the second result. -/
abbrev ms_4 (t : Fin cfg0.N) : Memref sig .tc .vmem S8x199x8x128 .f32 := win0_4.stage (cfg0.slots t 4)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

/-- The body returns each input's buffer as its block: the first, -/
theorem leaves_0 (c : Dev nD) (t : Fin cfg0.N) :
    (dats m 0 c).leavesExact 0 t = owns (c : Thread nD τ) (ms_0 t) fullShare (iblk m c 0 t) := by
  unfold Dat.leavesExact; rw [show cfg0.idle 0 (cfg0.grid.coords t) = false from rfl, after_0]
/-- the second, -/
theorem leaves_1 (c : Dev nD) (t : Fin cfg0.N) :
    (dats m 0 c).leavesExact 1 t = owns (c : Thread nD τ) (ms_1 t) fullShare (iblk m c 1 t) := by
  unfold Dat.leavesExact; rw [show cfg0.idle 1 (cfg0.grid.coords t) = false from rfl, after_1]
/-- and the third. -/
theorem leaves_2 (c : Dev nD) (t : Fin cfg0.N) :
    (dats m 0 c).leavesExact 2 t = owns (c : Thread nD τ) (ms_2 t) fullShare (iblk m c 2 t) := by
  unfold Dat.leavesExact; rw [show cfg0.idle 2 (cfg0.grid.coords t) = false from rfl, after_2]

/-- Before point 43 the first result's buffer is left at the point's own block, -/
theorem leaves_3_lt (c : Dev nD) (t : Fin cfg0.N) (h : t.val < 43) :
    (dats m 0 c).leavesExact 3 t = owns (c : Thread nD τ) (ms_3 t) fullShare (unaryBlk m c t) := by
  unfold Dat.leavesExact; rw [idle3_iff, decide_eq_false (by omega), after_3, cap_of_lt t h]
/-- from it on at what point 42 left, whether or not the point writes it back. -/
theorem leaves_3_ge (c : Dev nD) (t : Fin cfg0.N) (h : 43 ≤ t.val) (d) :
    owns (c : Thread nD τ) (ms_3 t) fullShare ((dats m 0 c).before 3 t d) ⊢ ((dats m 0 c).leavesExact 3 t : sProp 𝕄) := by
  by_cases hf : (cfg0.win 3).flush t = true
  · unfold Dat.leavesExact; rw [idle3_iff, decide_eq_true h, hf, after_3, before_3 m c d t.val t rfl h]
  · rw [Dat.leavesExact_idle _ 3 t (by rw [idle3_iff, decide_eq_true h]) (by simpa using hf)]
    iintro H; iexists d; iexact H
/-- The second result's buffer is left as found before point 43, -/
theorem leaves_4_lt (c : Dev nD) (t : Fin cfg0.N) (h : t.val < 43) (d) :
    owns (c : Thread nD τ) (ms_4 t) fullShare ((dats m 0 c).before 4 t d) ⊢ ((dats m 0 c).leavesExact 4 t : sProp 𝕄) := by
  rw [Dat.leavesExact_idle _ 4 t (by rw [idle4_iff, decide_eq_true h]) (by rw [flush4_iff, decide_eq_false (by omega)])]
  iintro H; iexists d; iexact H
/-- and at the point's block from it on. -/
theorem leaves_4_ge (c : Dev nD) (t : Fin cfg0.N) (h : 43 ≤ t.val) :
    (dats m 0 c).leavesExact 4 t = owns (c : Thread nD τ) (ms_4 t) fullShare (binaryBlk m c t) := by
  unfold Dat.leavesExact; rw [idle4_iff, decide_eq_false (by omega), after_4]

set_option maxHeartbeats 800000 in
/-- The body at any point: the point is in one of the two parts, and that part's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl, leaves_0, leaves_1, leaves_2]
  iintro ⟨HΦ, Ho, ⟨%d0, H0⟩, ⟨%d1, H1⟩, ⟨%d2, H2⟩, ⟨%d3, H3⟩, ⟨%d4, H4⟩⟩
  by_cases h : t.val < 43
  · rw [leaves_3_lt m c t h]
    iapply (run_unary c (grid0.coords t) _ _ _ _ _ _ _ _ _ _ (iblk m c 0 t) (iblk m c 1 t) (iblk m c 2 t) _ _
      ((cond1_iff t).mpr h) (fun h' => absurd ((cond2_iff t).mp h') (by omega)) Set.univ _)
    unfold five
    isplitl [H0 H1 H2 H3 H4]
    · isplitl [H0]; · iexact H0
      isplitl [H1]; · iexact H1
      isplitl [H2]; · iexact H2
      isplitl [H3]; · iexact H3
      iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply (leaves_4_lt m c t h d4)
    iexact H4
  · rw [leaves_4_ge m c t (by omega)]
    iapply (run_binary c (grid0.coords t) _ _ _ _ _ _ _ _ _ _ (iblk m c 0 t) (iblk m c 1 t) (iblk m c 2 t) _ _
      (fun h' => absurd ((cond1_iff t).mp h') h) ((cond2_iff t).mpr (by omega)) Set.univ _)
    unfold five
    isplitl [H0 H1 H2 H3 H4]
    · isplitl [H0]; · iexact H0
      isplitl [H1]; · iexact H1
      isplitl [H2]; · iexact H2
      isplitl [H3]; · iexact H3
      iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]
    · iapply (leaves_3_ge m c t (by omega) d3)
      iexact H3
    iexact H4

/-- The definition called at a point is the body at that point's buffers. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
/-- Every weakly fair execution of the program ends with each array of the region at what the write-backs made of
    it, every other buffer at what the later lines made of it, and every counter at zero. -/
theorem run_quiescent : θ_run defs (onTc (τ := τ) (main (F := F))) (s₀ m ρ) (fun r =>
    (Pipeline.FramePost cfgs (dats m) 0 (Pipeline.afterTail₀ cfgs (dats m) 0 (V0 m) [hostOps1])) r ∧ r.2.sem = fun _ => 0) :=
  Pipeline.θ_run_frame_around_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := dats_A m) (hΦ := fun _ _ => rfl)

/-- The same run, without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

/-- The program ends with its arguments as launched. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (dats_A m) (run_main m ρ)

/-- The program ends with its arguments as launched and every counter at zero. -/
theorem unchanged_quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_quiescent m ρ))

end Cert.KernelIdeal.Hand

end
-- ==== Proof.Same.lean ====
/- The kernel and its idealisation have one text: no operation is rewritten. Their tables of bodies are equal, over
   any floats, so the run of the one is the run of the other. -/
module

public import proofs.«01_k».proof.Proof.Region
public import proofs.«01_k».proof.Proof.Gen.Kernel

@[expose] public section

noncomputable section

namespace Cert.Kernel.Hand

open Idealize.ShloMosaic Idealize.SL.Sem

variable {F : FTy → Type} [FloatOps F]

/-- The two programs' bodies are the same at every label: there is one label. -/
theorem bodies_eq : Cert.Kernel.defs₀ (F := F) = Cert.KernelIdeal.defs₀ (F := F) := by
  unfold Cert.Kernel.defs₀ Cert.KernelIdeal.defs₀
  congr 1
  funext l x
  obtain ⟨n, h⟩ := l
  rcases n with _ | n
  · rfl
  · exact absurd h (by omega)

/-- So are their whole tables, with the pipelines. -/
theorem table_eq : Cert.Kernel.defs (F := F) = Cert.KernelIdeal.defs (F := F) := by
  unfold Cert.Kernel.defs
  rw [bodies_eq]
  rfl

/-- The kernel leaves both arguments as they were, and every counter at zero. -/
theorem unchanged_quiescent (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  rw [table_eq]
  exact Cert.KernelIdeal.Hand.unchanged_quiescent m ρ

end Cert.Kernel.Hand

end
-- ==== Proof.Spec.lean ====
/- The two results as functions of the first argument: what the kernel and the reference are both shown to compute. -/
module

public import Idealize.ShloMosaic.Lib.Pointwise
public import Idealize.ShloMosaic.Lib.StableHlo.Predicate

@[expose] public section

noncomputable section

namespace Cert.Spec

open Idealize.ShloMosaic

/-- One where `p` holds, zero elsewhere. -/
def ind (p : Prop) [Decidable p] : EReal := if p then 1 else 0

/-- The indicator of a true statement is one, -/
theorem ind_of {p : Prop} [Decidable p] (h : p) : ind p = 1 := if_pos h
/-- and of a false one zero. -/
theorem ind_of_not {p : Prop} [Decidable p] (h : ¬ p) : ind p = 0 := if_neg h

/-- Equivalent statements have one indicator. -/
theorem ind_congr {p q : Prop} [Decidable p] [Decidable q] (h : p ↔ q) : ind p = ind q := by
  by_cases hp : p
  · rw [ind_of hp, ind_of (h.mp hp)]
  · rw [ind_of_not hp, ind_of_not fun hq => hp (h.mpr hq)]

/-- The indicator of an equality of words, when the words are replaced by equals. -/
theorem ind_eq_congr {a b a' b' : BitVec 32} (ha : a = a') (hb : b = b') : ind (a = b) = ind (a' = b') := by
  rw [ha, hb]

/-- An equality test's bit is one exactly when the words are equal, and otherwise zero. -/
theorem eq_bit (a b : BitVec 32) : IntOp.cmpi .eq a b = if a = b then 1#1 else 0#1 := by
  by_cases h : a = b
  · rw [if_pos h]; exact StableHlo.Predicate.cmpi_eq_iff.mpr h
  · rw [if_neg h]
    rcases (IntOp.cmpi .eq a b).eq_zero_or_eq_one with h0 | h1
    · exact h0
    · exact absurd (StableHlo.Predicate.cmpi_eq_iff.mp h1) h

/-- An equality test's bit, widened to a word and read as a float, is the indicator of the words' equality. -/
theorem sitofp_eq (a b : BitVec 32) :
    (FloatOps.sitofp (F := Ideal) .f32 ((IntOp.cmpi .eq a b).setWidth 32) : EReal) = ind (a = b) := by
  rw [eq_bit]; unfold ind
  by_cases h : a = b
  · rw [if_pos h, if_pos h]
    show (((((1#1 : BitVec 1).setWidth 32).toInt : ℝ)) : EReal) = 1
    norm_num
  · rw [if_neg h, if_neg h]
    show (((((0#1 : BitVec 1).setWidth 32).toInt : ℝ)) : EReal) = 0
    norm_num

/-- An equality test's bit read as a float is the indicator of the words' equality. -/
theorem uitofp_eq (a b : BitVec 32) : (FloatOps.uitofp (F := Ideal) .f32 (IntOp.cmpi .eq a b) : EReal) = ind (a = b) := by
  rw [eq_bit]; unfold ind
  by_cases h : a = b
  · rw [if_pos h, if_pos h]
    show ((((1#1 : BitVec 1).toNat : ℝ)) : EReal) = 1
    norm_num
  · rw [if_neg h, if_neg h]
    show ((((0#1 : BitVec 1).toNat : ℝ)) : EReal) = 0
    norm_num

/-- Words of small numbers are equal exactly when the numbers are. -/
theorem ofNat_inj {a b : ℕ} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

/-- The other place of a pair: `k` before place `i`, `k + 1` from it on. -/
def other (i k : ℕ) : ℕ := if k < i then k else k + 1

/-- The partner position is a position. -/
theorem other_lt {i k : ℕ} (h : k < 199) : other i k < 200 := by unfold other; split <;> omega

/-- The first result: batch `b`, place `l`, column `c`. The first 200 columns mark the place, the others the letter. -/
def Out1 (x : (⟨2, ![1024, 200]⟩ : Shape).Idx → BitVec 32) : (⟨3, ![1024, 200, 301]⟩ : Shape).Idx → EReal := fun j =>
  ind (BitVec.ofNat 32 (j 2).val = BitVec.ofNat 32 (j 1).val) + ind (x (ix2 (j 0) (j 1)) = BitVec.ofNat 32 (j 2).val - 200#32)

/-- The second result: batch `b`, place `i`, pair number `k`: whether the letters of the pair's places agree. -/
def Out2 (x : (⟨2, ![1024, 200]⟩ : Shape).Idx → BitVec 32) : (⟨4, ![1024, 200, 199, 1]⟩ : Shape).Idx → EReal := fun j =>
  ind (x (ix2 (j 0) ⟨other (j 1).val (j 2).val, other_lt (j 2).isLt⟩) = x (ix2 (j 0) (j 1)))

end Cert.Spec

end
-- ==== Proof.Arrays.lean ====
/- The two arrays the region fills, as functions of the first argument. -/
module

public import proofs.«01_k».proof.Proof.Region
public import proofs.«01_k».proof.Proof.Spec
public import Idealize.ShloMosaic.Lib.Pipeline.ValueKit
public import Idealize.ShloMosaic.Lib.Pointwise
public import Idealize.ShloMosaic.Lib.Tactic.WordOmega
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL.Sem
open Idealize.ShloMosaic.Pipeline (Dat Cfg Window)
open Cert.KernelIdeal.Gen Cert.Spec

/-- A block's index times its size, plus the place in the block, as one word. -/
theorem word_place (n s y : ℕ) :
    IntOp.addi (Scalar.muli (BitVec.ofNat 32 n) (BitVec.ofNat 32 s)) (BitVec.ofNat 32 y) = BitVec.ofNat 32 (n * s + y) := by
  rw [BitVec.ofNat_add, BitVec.ofNat_mul]; rfl

/-- The first block at an index: whether the column is the place, plus whether the letter there is the column less 200. -/
theorem pay1_apply (i : grid0.Coords) (x : Vec Ideal S200x1024 .i32) (y : S7x200x1024.Idx) :
    k0_pay1 (F := Ideal) i x y
      = ind (BitVec.ofNat 32 ((i 0).val * 7 + (y 0).val) = BitVec.ofNat 32 (y 1).val)
        + ind (x (ix2 (y 1) (y 2)) = BitVec.ofNat 32 ((i 0).val * 7 + (y 0).val) - 200#32) := by
  pointwise [k0_pay1]
  rw [sitofp_eq, sitofp_eq, word_place]
  rfl

/-- The second block at an index: whether the letters of the two places agree. -/
theorem pay2_apply (i : grid0.Coords) (hi : 43 ≤ (i 0).val) (x : Vec Ideal S200x8x128 .i32) (z : Vec Ideal S8x8x128 .i32)
    (y : S8x199x8x128.Idx) :
    k0_pay2 (F := Ideal) i x z y
      = ind (x (ix3 ⟨other (((i 0).val - 43) * 8 + (y 0).val) (y 1).val, other_lt (y 1).isLt⟩ (y 2) (y 3))
          = z (ix3 (y 0) (y 2) (y 3))) := by
  pointwise [k0_pay2]
  have hi' : (i 0).val < 68 := (i 0).isLt
  have h0 : (y 0).val < 8 := (y 0).isLt
  have h1 : (y 1).val < 199 := (y 1).isLt
  rw [sitofp_eq, sitofp_eq, show Scalar.subi (BitVec.ofNat 32 (i 0).val) 43#32 = BitVec.ofNat 32 ((i 0).val - 43) from by
    show BitVec.ofNat 32 (i 0).val - 43#32 = _
    word_omega, word_place]
  by_cases h : (y 1).val < ((i 0).val - 43) * 8 + (y 0).val
  · rw [show IntOp.cmpi .slt (BitVec.ofNat 32 (y 1).val) (BitVec.ofNat 32 (((i 0).val - 43) * 8 + (y 0).val)) = 1#1 from by
      word_cmp]
    show ind _ = ind _
    congr 4
    refine Fin.ext ?_
    show (y 1).val = other _ _
    rw [other, if_pos h]
  · rw [show IntOp.cmpi .slt (BitVec.ofNat 32 (y 1).val) (BitVec.ofNat 32 (((i 0).val - 43) * 8 + (y 0).val)) = 0#1 from by
      word_cmp]
    show ind _ = ind _
    congr 4
    refine Fin.ext ?_
    show 1 + (y 1).val = other _ _
    rw [other, if_neg h]; omega

variable (m : (ℓ : Loc nD τ sig) → Buf (Elt Ideal) ℓ)

/-! ## Where the blocks lie -/

/-- Each window's block index at a point, and the point's own coordinate. -/
theorem idx : ∀ t : Fin cfg0.N, win0_0.index t = ![0, 0] ∧ win0_1.index t = ![0, 0, 0]
    ∧ win0_2.index t = ![t.val - 43, 0, 0] ∧ win0_3.index t = ![min t.val 42, 0, 0]
    ∧ win0_4.index t = ![t.val - 43, 0, 0, 0] ∧ (grid0.coords t 0).val = t.val :=
  (by decide +kernel : ∀ t : Fin grid0.N, _)

/-- The first array: column `c`, place `l`, batch `b`. -/
def G3 (x : Vec Ideal S200x1024 .i32) : Vec Ideal S301x200x1024 .f32 := fun j =>
  ind (BitVec.ofNat 32 (j 0).val = BitVec.ofNat 32 (j 1).val) + ind (x (ix2 (j 1) (j 2)) = BitVec.ofNat 32 (j 0).val - 200#32)

/-- What the write-backs make of the first array, -/
theorem arr3 (c : Dev nD) : (dats (F := Ideal) m 0 c).arrAt 3 cfg0.N = G3 (V m c main_v0) := by
  refine (dats m 0 c).arrAt_eq_of_covers 3 _ (by decide +kernel) fun t hf y => ?_
  rw [after_3]; unfold unaryBlk
  blk_simp [iblk]
  unfold G3
  refine (pay1_apply _ _ y).trans ?_
  rw [(idx (cap t)).2.2.2.2.2]
  blk_simp [idx t, idx (cap t), V]
  congr 3
  blk_ext [idx t, idx (cap t), V]

/-- The second array: place `i`, pair number `k`, batch row and lane. -/
def G4 (x : Vec Ideal S200x8x128 .i32) : Vec Ideal S200x199x8x128 .f32 := fun j =>
  ind (x (ix3 ⟨other (j 0).val (j 1).val, other_lt (j 1).isLt⟩ (j 2) (j 3)) = x (ix3 (j 0) (j 2) (j 3)))

/-- What the write-backs make of the second array. -/
theorem arr4 (c : Dev nD) : (dats (F := Ideal) m 0 c).arrAt 4 cfg0.N = G4 (V m c main_v1) := by
  refine (dats m 0 c).arrAt_eq_of_covers 4 _ (by decide +kernel) fun t hf y => ?_
  rw [after_4]; unfold binaryBlk
  blk_simp [iblk]
  unfold G4
  have ht : 43 ≤ t.val := by rw [flush4_iff] at hf; simpa using hf
  refine (pay2_apply _ ((idx t).2.2.2.2.2.symm ▸ ht) _ _ y).trans ?_
  rw [(idx t).2.2.2.2.2]
  blk_simp [idx t, V]
  refine ind_eq_congr ?_ ?_
  · blk_ext [idx t, V]
  · blk_ext [idx t, V]

end Cert.KernelIdeal.Hand

end
-- ==== Proof.Results.lean ====
/- The kernel's two results as functions of the first argument. -/
module

public import proofs.«01_k».proof.Proof.Arrays

@[expose] public section

set_option maxRecDepth 16384

noncomputable section

namespace Cert.KernelIdeal.Hand

open Idealize.ShloMosaic Idealize.ShloMosaic.TcCoe Idealize.ShloMosaic.Tactic
open Idealize.SL.Sem
open Idealize.ShloMosaic.Pipeline (Dat Cfg Window)
open Cert.KernelIdeal.Gen Cert.Spec

variable (m : (ℓ : Loc nD τ sig) → Buf (Elt Ideal) ℓ) (ρ : Dev nD → PrngReg)

/-- The kernel's first input array is the letters transposed, -/
theorem entry_v0 (c : Dev nD) : V m c main_v0
    = transpose S200x1024 [1, 0] (m ((c : Thread nD τ).loc main_arg0)) transposes_S1024x200_S200x1024_1_0 := by
  show StableHlo.after (List.flatten [hostOps0]) (fun b => m (c, b)) _ = _
  simp only [hostOps0, List.flatten_cons, List.flatten_nil, List.append_nil, List.cons_append, List.nil_append]
  after_results

/-- and the second is that array with its batch axis split in two. -/
theorem entry_v1 (c : Dev nD) : V m c main_v1
    = shapeCast S200x8x128 (transpose S200x1024 [1, 0] (m ((c : Thread nD τ).loc main_arg0)) transposes_S1024x200_S200x1024_1_0)
        shapeCasts_S200x1024_S200x8x128 := by
  show StableHlo.after (List.flatten [hostOps0]) (fun b => m (c, b)) _ = _
  simp only [hostOps0, List.flatten_cons, List.flatten_nil, List.append_nil, List.cons_append, List.nil_append]
  after_results
  rfl

/-- Two windows of one array are inputs: the array is at its entry contents under each. -/
theorem shared_arr (c : Dev nD) : ∀ w w' : Fin cfg0.W, w ≠ w' → Pipeline.arrRef spec0 w = Pipeline.arrRef spec0 w' →
    (dats (F := Ideal) m 0 c).arrAt w cfg0.N = V0 m c (Proc.devRef .tc (Pipeline.arrRef spec0 w)) := by
  intro w w' hne he
  have h : (cfg0.win w).isOut = false :=
    (by decide : ∀ w w' : Fin 5, w ≠ w' → Pipeline.arrRef spec0 w = Pipeline.arrRef spec0 w' → (cfg0.win w).isOut = false) w w' hne he
  exact ((dats m 0 c).arrAt_in w h _).trans (dats_A m c w)

/-- What the later lines find in the first array, -/
theorem found_3 (c : Dev nD) :
    Pipeline.withArrays (cfgs 0).spec c (V0 m c) (fun w => (dats (F := Ideal) m 0 c).arrAt w (cfgs 0).N) (Proc.devRef .tc main_v2_0)
      = G3 (V m c main_v0) :=
  (Pipeline.withArrays_arr_shared spec0 c (V0 m c) (fun w => (dats (F := Ideal) m 0 c).arrAt w cfg0.N) (shared_arr m c) 3).trans (arr3 m c)
/-- and in the second. -/
theorem found_4 (c : Dev nD) :
    Pipeline.withArrays (cfgs 0).spec c (V0 m c) (fun w => (dats (F := Ideal) m 0 c).arrAt w (cfgs 0).N) (Proc.devRef .tc main_v2_1)
      = G4 (V m c main_v1) :=
  (Pipeline.withArrays_arr_shared spec0 c (V0 m c) (fun w => (dats (F := Ideal) m 0 c).arrAt w cfg0.N) (shared_arr m c) 4).trans (arr4 m c)

/-- The first array turned around is the first result. -/
theorem out1_eq (x : Vec Ideal S1024x200 .i32) :
    transpose S1024x200x301 [2, 1, 0] (G3 (transpose S200x1024 [1, 0] x transposes_S1024x200_S200x1024_1_0))
      transposes_S301x200x1024_S1024x200x301_2_1_0 = Out1 x := by
  funext j
  idx_vars j
  pointwise [G3, Out1]

/-- The second array, turned around and reshaped, is the second result. -/
theorem out2_eq (x : Vec Ideal S1024x200 .i32) :
    shapeCast S1024x200x199x1 (transpose S8x128x200x199 [2, 3, 0, 1] (G4 (shapeCast S200x8x128
      (transpose S200x1024 [1, 0] x transposes_S1024x200_S200x1024_1_0) shapeCasts_S200x1024_S200x8x128))
      transposes_S200x199x8x128_S8x128x200x199_2_3_0_1) shapeCasts_S8x128x200x199_S1024x200x199x1 = Out2 x := by
  funext j
  idx_vars j
  pointwise [G4, Out2]

/-- After the closing operations the first result is `Out1` of the letters, -/
theorem tail_v3 (c : Dev nD) : Pipeline.afterTail₀ cfgs (dats (F := Ideal) m) 0 (V0 m) [hostOps1] c main_v3
    = Out1 (m ((c : Thread nD τ).loc main_arg0)) := by
  unfold Pipeline.afterTail₀
  simp only [hostOps1, List.flatten_cons, List.flatten_nil, List.append_nil, List.cons_append, List.nil_append]
  after_results
  rw [found_3, entry_v0]
  exact out1_eq _

/-- and the second is `Out2` of them. -/
theorem tail_v5 (c : Dev nD) : Pipeline.afterTail₀ cfgs (dats (F := Ideal) m) 0 (V0 m) [hostOps1] c main_v5
    = Out2 (m ((c : Thread nD τ).loc main_arg0)) := by
  unfold Pipeline.afterTail₀
  simp only [hostOps1, List.flatten_cons, List.flatten_nil, List.append_nil, List.cons_append, List.nil_append]
  after_results
  rw [found_4, entry_v1]
  exact out2_eq _

/-- The program ends with both results at the functions of its first argument, and with its arguments as launched. -/
theorem results : θ_run defs (onTc (τ := τ) (main (F := Ideal))) ⟨m, fun _ => 0, ρ⟩ (fun r => ∀ c : Dev nD,
      r.2.mem ((c.tc : Thread nD τ).loc main_v3) = Out1 (m ((c.tc : Thread nD τ).loc main_arg0))
      ∧ r.2.mem ((c.tc : Thread nD τ).loc main_v5) = Out2 (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h.2.rest_eq c main_v3 (by decide)).trans (tail_v3 m c),
    (h.2.rest_eq c main_v5 (by decide)).trans (tail_v5 m c), h.1 c⟩) (θ_run_and (unchanged m ρ) (run_main m ρ))

end Cert.KernelIdeal.Hand

end
-- ==== Proof.Gathers.lean ====
/- The reference's two gathers read at an index. -/
module

public import proofs.«01_k».proof.Proof.Gen.ReferenceIdeal.Read
public import Idealize.ShloMosaic.Lib.Pointwise

@[expose] public section

noncomputable section

namespace Cert.ReferenceIdeal.Hand

open Idealize.ShloMosaic Idealize.ShloMosaic.TcCoe Idealize.SL.Sem
open Cert.ReferenceIdeal Cert.ReferenceIdeal.Gen

variable {α : Type}

/-- The table gather's dimension numbers, -/
abbrev rowsDims : GatherDims S101x101 S1024x200x1 S1024x200x101 := gather_S101x101_S1024x200x1_S1024x200x101_2_0_n_n_0_2_1101
/-- and the second gather's. -/
abbrev alongDims : GatherDims S1024x200x200 S1024x200x199x1 S1024x200x199 :=
  gather_S1024x200x200_S1024x200x199x1_S1024x200x199_n_2_01_01_2_3_111

/-- The table gather at batch `b`, place `l`, column `q`: the table's row named by the start index, read signed and
    clamped to the table, at column `q`. -/
theorem rows_apply (x : S101x101.Idx → α) (idx : IVec S1024x200x1 32) (y : S1024x200x101.Idx) :
    Host.gather rowsDims x idx y
      = x (ix2 ⟨min (idx (ix3 (y 0) (y 1) (0 : Fin 1))).toInt.toNat 100, by omega⟩ (y 2)) := by
  unfold Host.gather
  refine congrArg x (funext fun a => Fin.ext ?_)
  have ha : a = (0 : Fin 2) ∨ a = (1 : Fin 2) := by
    match a with
    | ⟨0, _⟩ => exact Or.inl rfl
    | ⟨1, _⟩ => exact Or.inr rfl
  rcases ha with rfl | rfl
  · show rowsDims.start y idx (0 : Fin 2) + rowsDims.batchCoord y (0 : Fin 2) + rowsDims.offCoord y (0 : Fin 2) = min _ 100
    rw [GatherDims.batchCoord_eq_zero _ _ _ (by decide),
      GatherDims.offCoord_eq_zero _ _ _ (fun h => ((GatherDims.mem_sKept _ _).mp h).1 (by decide))]
    simp only [Nat.add_zero]
    unfold GatherDims.start
    rw [dif_pos (show (0 : Fin 2) ∈ rowsDims.startIndexMap by decide)]
    refine congrArg (fun v : BitVec 32 => min v.toInt.toNat 100) (congrArg idx (funext fun b => Fin.ext ?_))
    match b with
    | ⟨0, _⟩ => rfl
    | ⟨1, _⟩ => rfl
    | ⟨2, _⟩ => rfl
  · show rowsDims.start y idx (1 : Fin 2) + rowsDims.batchCoord y (1 : Fin 2) + rowsDims.offCoord y (1 : Fin 2) = (y 2).val
    rw [GatherDims.batchCoord_eq_zero _ _ _ (by decide)]
    unfold GatherDims.start GatherDims.offCoord
    rw [dif_neg (show ¬ (1 : Fin 2) ∈ rowsDims.startIndexMap by decide), dif_pos (show (1 : Fin 2) ∈ rowsDims.sKept by decide)]
    simp only [Nat.zero_add]
    rfl

/-- The second gather at batch `b`, row `i`, number `k`: the matrix of batch `b` at row `i` and the column named by the
    start index, read signed and clamped. -/
theorem along_apply (x : S1024x200x200.Idx → α) (idx : IVec S1024x200x199x1 32) (y : S1024x200x199.Idx) :
    Host.gather alongDims x idx y
      = x (ix3 (y 0) (y 1) ⟨min (idx (ix4 (y 0) (y 1) (y 2) (0 : Fin 1))).toInt.toNat 199, by omega⟩) := by
  unfold Host.gather
  refine congrArg x (funext fun a => Fin.ext ?_)
  have ha : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rcases ha with rfl | rfl | rfl
  · show alongDims.start y idx (0 : Fin 3) + alongDims.batchCoord y (0 : Fin 3) + alongDims.offCoord y (0 : Fin 3) = (y 0).val
    rw [GatherDims.start_batching _ _ _ _ (by decide),
      GatherDims.offCoord_eq_zero _ _ _ (fun h => ((GatherDims.mem_sKept _ _).mp h).2 (by decide))]
    unfold GatherDims.batchCoord
    rw [dif_pos (show (0 : Fin 3) ∈ alongDims.operandBatchingDims by decide)]
    simp only [Nat.zero_add, Nat.add_zero]
    rfl
  · show alongDims.start y idx (1 : Fin 3) + alongDims.batchCoord y (1 : Fin 3) + alongDims.offCoord y (1 : Fin 3) = (y 1).val
    rw [GatherDims.start_batching _ _ _ _ (by decide),
      GatherDims.offCoord_eq_zero _ _ _ (fun h => ((GatherDims.mem_sKept _ _).mp h).2 (by decide))]
    unfold GatherDims.batchCoord
    rw [dif_pos (show (1 : Fin 3) ∈ alongDims.operandBatchingDims by decide)]
    simp only [Nat.zero_add, Nat.add_zero]
    rfl
  · show alongDims.start y idx (2 : Fin 3) + alongDims.batchCoord y (2 : Fin 3) + alongDims.offCoord y (2 : Fin 3) = min _ 199
    rw [GatherDims.batchCoord_eq_zero _ _ _ (by decide),
      GatherDims.offCoord_eq_zero _ _ _ (fun h => ((GatherDims.mem_sKept _ _).mp h).1 (by decide))]
    simp only [Nat.add_zero]
    unfold GatherDims.start
    rw [dif_pos (show (2 : Fin 3) ∈ alongDims.startIndexMap by decide)]
    refine congrArg (fun v : BitVec 32 => min v.toInt.toNat 199) (congrArg idx (funext fun b => Fin.ext ?_))
    match b with
    | ⟨0, _⟩ => rfl
    | ⟨1, _⟩ => rfl
    | ⟨2, _⟩ => rfl
    | ⟨3, _⟩ => rfl

end Cert.ReferenceIdeal.Hand

end
-- ==== Proof.RefValue.lean ====
/- The reference's two results as functions of its first argument, for drawn arguments. -/
module

public import proofs.«01_k».proof.Proof.Gathers
public import proofs.«01_k».proof.Proof.Spec
public import proofs.«01_k».proof.Proof.Gen.Pre_drawn
public import Idealize.ShloMosaic.Lib.ReduceAll
public import Idealize.ShloMosaic.Lib.WordCmp
public import Idealize.ShloMosaic.Lib.Tactic.WordOmega

@[expose] public section

noncomputable section

namespace Cert.ReferenceIdeal.Hand

open Idealize.ShloMosaic Idealize.ShloMosaic.TcCoe Idealize.SL.Sem
open Cert.ReferenceIdeal Cert.ReferenceIdeal.Gen Cert.ReferenceIdeal.Read Cert.Spec

/-- What the precondition says: every letter is between 0 and 100, and the table is the unit matrix. -/
theorem drawn (x : Vec Ideal S1024x200 .i32) (t : Vec Ideal S101x101 .f32)
    (h : Cert.Pre_drawn.fn (F := Ideal) x t = fun _ => 1#1) :
    (∀ i, (x i).toNat ≤ 100) ∧ ∀ i : S101x101.Idx, t i = ind ((i 0).val = (i 1).val) := by
  have h0 := congrFun h ix0
  unfold Cert.Pre_drawn.fn at h0
  dsimp only at h0
  haveI : Subsingleton Cert.Pre_drawn.S_.Idx := ⟨fun a b => funext fun k => k.elim0⟩
  obtain ⟨h1, h2⟩ := IntOp.andi_eq_one.1 h0
  obtain ⟨h3, h4⟩ := IntOp.andi_eq_one.1 h1
  refine ⟨fun i => ?_, fun i => ?_⟩
  · have lo : (0#32 : BitVec 32).toInt ≤ (x i).toInt := IntOp.cmpi_sge.1 (Host.reduce_andi_all _ _ _ _ _ h3 i)
    have hi : (x i).toInt ≤ (100#32 : BitVec 32).toInt := IntOp.cmpi_sle.1 (Host.reduce_andi_all _ _ _ _ _ h4 i)
    rw [show (0#32 : BitVec 32).toInt = 0 from rfl] at lo
    rw [show (100#32 : BitVec 32).toInt = 100 from rfl] at hi
    have hlt : (x i).toNat < 2 ^ 32 := (x i).isLt
    rw [BitVec.toInt_eq_toNat_cond] at lo hi
    split at lo <;> omega
  · have e : Ideal.cmp .oeq (t i) (FloatOps.uitofp (F := Ideal) .f32
        (IntOp.cmpi .eq (IntOp.addi (BitVec.ofNat 32 (i 0).val) 0#32) (BitVec.ofNat 32 (i 1).val))) = 1#1 :=
      Host.reduce_andi_all _ _ _ _ _ h2 i
    have h0 : (i 0).val < 101 := (i 0).isLt
    have h1 : (i 1).val < 101 := (i 1).isLt
    rw [uitofp_eq, show IntOp.addi (BitVec.ofNat 32 (i 0).val) 0#32 = BitVec.ofNat 32 (i 0).val from BitVec.add_zero _] at e
    have e' : t i = ind (BitVec.ofNat 32 (i 0).val = BitVec.ofNat 32 (i 1).val) := by
      by_contra hne
      rw [show Ideal.cmp .oeq (t i) (ind (BitVec.ofNat 32 (i 0).val = BitVec.ofNat 32 (i 1).val)) = 0#1 from by
        show BitVec.ofBool (decide (_ = _)) = _
        rw [decide_eq_false hne]; rfl] at e
      exact absurd e (by decide)
    rw [e']
    exact ind_congr (ofNat_inj (by omega) (by omega))

variable (x : Vec Ideal S1024x200 .i32) (t : Vec Ideal S101x101 .f32) (hx : ∀ i, (x i).toNat ≤ 100)
  (ht : ∀ i : S101x101.Idx, t i = ind ((i 0).val = (i 1).val))

include hx in
/-- A letter in range is its own start index. -/
theorem start_eq (i : S1024x200x1.Idx) : val_main_call0_v5 (F := Ideal) x i = x (idx_main_call0_v5 i) := by
  rw [val_main_call0_v5_apply, val_main_call0_v4_apply, val_main_call0_v1_apply, val_main_call0_v0_apply]
  have := hx (idx_main_call0_v5 i)
  rw [val_main_call0_c_apply, show IntOp.cmpi .slt (x (idx_main_call0_v5 i)) 0#32 = 0#1 from by word_cmp]
  rfl

include hx in
/-- Every letter is within the table, -/
theorem inRange (j : S1024x200.Idx) : val_main_call0_v12 (F := Ideal) x j = 1#1 := by
  unfold val_main_call0_v12
  refine Host.reduce_andi_one _ _ _ _ _ rfl fun i => ?_
  have := hx (idx_main_call0_v5 i)
  rw [val_main_call0_v11_apply, val_main_call0_v7_apply, val_main_call0_v10_apply, start_eq x hx, val_main_call0_v6_apply,
    val_main_call0_c_2_apply, val_main_call0_v9_apply, val_main_call0_v8_apply, val_main_call0_c_1_apply]
  rw [show IntOp.cmpi .sge (x (idx_main_call0_v5 i)) 0#32 = 1#1 from by word_cmp, show IntOp.cmpi .sle (x (idx_main_call0_v5 i)) 100#32 = 1#1 from by word_cmp]
  rfl

/-- A word up to 100, read signed and clamped to 100, is itself. -/
theorem clamp_iff {v : BitVec 32} {q : ℕ} (h : v.toNat ≤ 100) : min v.toInt.toNat 100 = q ↔ v.toNat = q := by
  rw [WordCmp.toInt_eq_toNat_of_lt_half (by omega)]
  omega

include hx ht in
/-- The reference's one-hot letters: batch `b`, place `l`, column `q`. -/
theorem letters (y : S1024x200x101.Idx) : val_main_v8 (F := Ideal) x t y = ind ((x (ix2 (y 0) (y 1))).toNat = (y 2).val) := by
  rw [val_main_v8_apply, val_main_call0_v14_apply, inRange x hx]
  show val_main_call0_v13 (F := Ideal) x t y = _
  unfold val_main_call0_v13
  have hy := hx (ix2 (y 0) (y 1))
  refine (rows_apply t (val_main_call0_v5 (F := Ideal) x) y).trans ((ht _).trans (ind_congr ?_))
  show min (BitVec.toInt (val_main_call0_v5 (F := Ideal) x (ix3 (y 0) (y 1) (0 : Fin 1)))).toNat 100 = (y 2).val ↔ _
  rw [start_eq x hx, show idx_main_call0_v5 (ix3 (y 0) (y 1) (0 : Fin 1)) = ix2 (y 0) (y 1) from eq_ix2 _]
  exact clamp_iff hy

/-- The reference's places: batch `b`, place `l`, column `c`. -/
theorem places (y : S1024x200x200.Idx) : val_main_v7 (F := Ideal) y = ind ((y 1).val = (y 2).val) := by
  have h1 : (y 1).val < 200 := (y 1).isLt
  have h2 : (y 2).val < 200 := (y 2).isLt
  rw [val_main_v7_apply, val_main_v6_apply, val_main_v5_apply, val_main_v4_apply, uitofp_eq, val_main_v3_apply,
    val_main_v2_apply, val_main_c_apply, val_main_v0_apply, val_main_v1_apply]
  refine (ind_eq_congr (BitVec.add_zero _) rfl).trans (ind_congr ?_)
  exact ofNat_inj (by show (y 1).val < _; omega) (by show (y 2).val < _; omega)

include hx ht in
/-- The reference's first result. -/
theorem first : val_main_v9 (F := Ideal) x t = Out1 x := by
  funext j
  idx_vars j
  pointwise [val_main_v9, Out1]
  have h1 : j1.val < 200 := j1.isLt
  have h2 : j2.val < 301 := j2.isLt
  have hj := hx (ix2 j0 j1)
  have hw : x (ix2 j0 j1) = BitVec.ofNat 32 j2.val - 200#32 ↔ (x (ix2 j0 j1)).toNat + 200 = j2.val := by
    rw [← BitVec.toNat_inj]
    word_omega
  split
  · refine (places _).trans (Eq.symm ((congrArg₂ (· + ·) (ind_congr ?_) (ind_of_not (hw.not.mpr (by omega)))).trans (add_zero _)))
    rw [ofNat_inj (by omega) (by omega)]
    exact eq_comm
  · refine (letters x t hx ht _).trans (Eq.symm ((congrArg₂ (· + ·) (ind_of_not ?_) (ind_congr (hw.trans ?_))).trans (zero_add _)))
    · rw [ofNat_inj (by omega) (by omega)]; omega
    · show _ ↔ (x (ix2 j0 j1)).toNat = j2.val - 200
      omega

/-- A sum of products of two indicators of one number each is the indicator of the numbers' equality. -/
theorem sum_ind (a b : ℕ) (ha : a ≤ 100) : ∑ k : Fin 101, ind (a = k.val) * ind (b = k.val) = ind (a = b) := by
  rw [Finset.sum_eq_single (⟨a, by omega⟩ : Fin 101)]
  · rw [ind_of rfl, one_mul]
    exact ind_congr eq_comm
  · intro k _ hk
    rw [ind_of_not (fun h => hk (Fin.ext h.symm)), zero_mul]
  · exact fun h => absurd (Finset.mem_univ _) h

include hx ht in
/-- The reference's products: batch `b`, places `i` and `j`: whether the letters agree. -/
theorem products (y : S1024x200x200.Idx) :
    val_main_v11 (F := Ideal) x t y = ind ((x (ix2 (y 0) (y 1))).toNat = (x (ix2 (y 0) (y 2))).toNat) := by
  rw [val_main_v11_apply, ← sum_ind _ _ (hx _)]
  refine Finset.sum_congr rfl fun k _ => ?_
  rw [val_main_v10_apply, letters x t hx ht, letters x t hx ht]
  rfl

/-- The reference's index of the other place: batch `b`, place `i`, pair number `k`. -/
theorem partner (y : S1024x200x199.Idx) : val_main_v23 (F := Ideal) y = BitVec.ofNat 32 (other (y 1).val (y 2).val) := by
  have h1 : (y 1).val < 200 := (y 1).isLt
  have h2 : (y 2).val < 199 := (y 2).isLt
  rw [val_main_v23_apply, val_main_v22_apply, val_main_v21_apply, val_main_v20_apply, val_main_v19_apply, val_main_v18_apply,
    val_main_v16_apply, val_main_v17_apply, val_main_v13_apply, val_main_v15_apply, val_main_v12_apply,
    val_main_v14_apply]
  show IntOp.addi (BitVec.ofNat 32 (y 2).val)
    ((IntOp.cmpi .sge (BitVec.ofNat 32 (y 2).val) (BitVec.ofNat 32 (y 1).val)).setWidth 32) = _
  unfold other
  by_cases h : (y 2).val < (y 1).val
  · rw [if_pos h, show IntOp.cmpi .sge (BitVec.ofNat 32 (y 2).val) (BitVec.ofNat 32 (y 1).val) = 0#1 from by word_cmp]
    exact BitVec.add_zero _
  · rw [if_neg h, show IntOp.cmpi .sge (BitVec.ofNat 32 (y 2).val) (BitVec.ofNat 32 (y 1).val) = 1#1 from by word_cmp,
      BitVec.ofNat_add]
    rfl

/-- The second gather's start index. -/
theorem start2_eq (y : S1024x200x199x1.Idx) :
    val_main_call1_v5 (F := Ideal) y = BitVec.ofNat 32 (other (y 1).val (y 2).val) := by
  have h0 : (y 0).val < 1024 := (y 0).isLt
  have h1 : (y 1).val < 200 := (y 1).isLt
  have h2 : (y 2).val < 199 := (y 2).isLt
  have h3 : (y 3).val < 1 := (y 3).isLt
  have ho := other_lt (i := (y 1).val) h2
  have e1 : (idx_main_call1_v5 y 1).val = (y 1).val := by
    show ((((y 0).val * 200 + (y 1).val) * 199 + (y 2).val) * 1 + (y 3).val) / 199 % 200 = _
    omega
  have e2 : (idx_main_call1_v5 y 2).val = (y 2).val := by
    show ((((y 0).val * 200 + (y 1).val) * 199 + (y 2).val) * 1 + (y 3).val) % 199 = _
    omega
  rw [val_main_call1_v5_apply, val_main_call1_v4_apply, val_main_call1_v1_apply, partner, e1, e2, val_main_call1_v0_apply,
    val_main_call1_c_apply,
    show IntOp.cmpi .slt (BitVec.ofNat 32 (other (y 1).val (y 2).val)) 0#32 = 0#1 from by word_cmp]
  rfl

/-- and every other place within the sentence. -/
theorem inRange2 (j : S1024x200x199.Idx) : val_main_call1_v12 (F := Ideal) j = 1#1 := by
  unfold val_main_call1_v12
  refine Host.reduce_andi_one _ _ _ _ _ rfl fun i => ?_
  have h2 : (i 2).val < 199 := (i 2).isLt
  have ho := other_lt (i := (i 1).val) h2
  rw [val_main_call1_v11_apply, val_main_call1_v7_apply, val_main_call1_v10_apply, start2_eq, val_main_call1_v6_apply,
    val_main_call1_c_2_apply, val_main_call1_v9_apply, val_main_call1_v8_apply, val_main_call1_c_1_apply,
    show IntOp.cmpi .sge (BitVec.ofNat 32 (other (i 1).val (i 2).val)) 0#32 = 1#1 from by word_cmp,
    show IntOp.cmpi .sle (BitVec.ofNat 32 (other (i 1).val (i 2).val)) 199#32 = 1#1 from by word_cmp]
  rfl

include hx ht in
/-- The reference's second result. -/
theorem second : val_main_v25 (F := Ideal) x t = Out2 x := by
  funext j
  have h2 : (j 2).val < 199 := (j 2).isLt
  have ho := other_lt (i := (j 1).val) h2
  rw [val_main_v25_apply, val_main_v24_apply, inRange2]
  show val_main_call1_v13 (F := Ideal) x t (idx_main_v25 j) = _
  unfold val_main_call1_v13
  refine (along_apply (val_main_v11 (F := Ideal) x t) (val_main_call1_v5 (F := Ideal)) (idx_main_v25 j)).trans
    ((products x t hx ht _).trans (ind_congr ?_))
  have hm : min (BitVec.toInt (val_main_call1_v5 (F := Ideal) (ix4 (j 0) (j 1) (j 2) (0 : Fin 1)))).toNat 199
      = other (j 1).val (j 2).val := by
    rw [start2_eq]
    show min (BitVec.toInt (BitVec.ofNat 32 (other (j 1).val (j 2).val))).toNat 199 = _
    rw [WordCmp.toInt_eq_toNat_of_lt_half (by rw [BitVec.toNat_ofNat]; omega), BitVec.toNat_ofNat]
    omega
  have hp : (⟨min (BitVec.toInt (val_main_call1_v5 (F := Ideal) (ix4 (j 0) (j 1) (j 2) (0 : Fin 1)))).toNat 199, by omega⟩ : Fin 200)
      = ⟨other (j 1).val (j 2).val, ho⟩ := Fin.ext hm
  show (x (ix2 (j 0) (j 1))).toNat = (x (ix2 (j 0)
    ⟨min (BitVec.toInt (val_main_call1_v5 (F := Ideal) (ix4 (j 0) (j 1) (j 2) (0 : Fin 1)))).toNat 199, _⟩)).toNat ↔ _
  rw [hp, BitVec.toNat_inj]
  exact eq_comm

end Cert.ReferenceIdeal.Hand

end
-- ==== Proof.lean ====
/- The claim assembled. The runs leave their arguments as they were with every counter at zero; the
   kernel's two results are the arrays `Cert.Spec.Out1` and `Cert.Spec.Out2` of the letters
   (Proof/Results.lean), and for drawn arguments so are the reference's (Proof/RefValue.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_drawn
public import proofs.«01_k».proof.Proof.Gen.ReferenceIdeal.Run
public import proofs.«01_k».proof.Proof.Gen.ReferenceIdeal.Read
public import proofs.«01_k».proof.Proof.Same
public import proofs.«01_k».proof.Proof.Results
public import proofs.«01_k».proof.Proof.RefValue
public import Idealize.ShloMosaic.Lib.Quiescent
public import Idealize.ShloMosaic.Adequacy
public import Idealize.ShloMosaic.Init

@[expose] public section

noncomputable section

namespace Cert.Proof

open Idealize.ShloMosaic Idealize.SL.Sem

/-- The reference leaves both arguments as they were, and every counter at zero: it has no semaphores. -/
theorem reference_quiescent (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1))
        ∧ r.2.sem = fun _ => 0) :=
  (θ_run _ _ _).mono (fun r h => ⟨fun c => (h c).2.2, sem_eq_zero_of_no_sems (by decide) r.2⟩)
    (Cert.ReferenceIdeal.Value.run (F := Ideal) m g)

/-- For drawn arguments the kernel and the reference end with equal results: both are the one-hot-and-match
    array `Out1` and the pairwise-match array `Out2` of the letters. -/
theorem equal_results :
    Cert.algebraic_KernelIdeal_ReferenceIdeal_pre_drawn (hKernelIdeal := Cert.KernelIdeal.Gen.facts)
      (hReferenceIdeal := Cert.ReferenceIdeal.Gen.facts) (hPre_drawn := Cert.Pre_drawn.Gen.facts) := by
  intro m g m' g' hp hag
  refine ⟨_, _, Cert.KernelIdeal.Hand.results m g, (θ_run _ _ _).mono (fun r h c => ?_)
    (Cert.ReferenceIdeal.Value.run (F := Ideal) m' g')⟩
  obtain ⟨hx, ht⟩ := Cert.ReferenceIdeal.Hand.drawn _ _ (hp c)
  obtain ⟨h9, h25, h0, h1⟩ := h c
  refine ⟨h9.trans ((Cert.ReferenceIdeal.Read.val_main_v9_eq _ _).trans ?_),
    h25.trans ((Cert.ReferenceIdeal.Read.val_main_v25_eq m' c).trans ?_), h0, h1⟩
  · rw [(hag c).1, (hag c).2]; exact Cert.ReferenceIdeal.Hand.first _ _ hx ht
  · rw [(hag c).1, (hag c).2]; exact Cert.ReferenceIdeal.Hand.second _ _ hx ht

/-- Everything claimed: the frames, the kernel carried over unchanged, and the equality of the results. -/
theorem claim : Cert.Claim :=
  ⟨Cert.Kernel.Gen.facts, Cert.KernelIdeal.Gen.facts, Cert.ReferenceIdeal.Gen.facts, Cert.Pre_drawn.Gen.facts,
    fun m g _ => Cert.Kernel.Hand.unchanged_quiescent m g,
    fun m g _ => Cert.KernelIdeal.Hand.unchanged_quiescent m g,
    fun m g _ => Cert.KernelIdeal.Hand.unchanged_quiescent m g,
    fun m g _ => reference_quiescent m g,
    fun m g _ => reference_quiescent m g,
    trivial,
    equal_results⟩

end Cert.Proof

end
